-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x8192x1024 : Shape := ⟨3, ![4, 8192, 1024]⟩
abbrev S8192x1024 : Shape := ⟨2, ![8192, 1024]⟩
abbrev S1x512x1024 : Shape := ⟨3, ![1, 512, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4x8192x1024, .f32⟩
  | .hbm, ⟨1, _⟩ => ⟨S8192x1024, .f32⟩
  | .hbm, ⟨2, _⟩ => ⟨S4x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S512x1024, .f32⟩
  | .local _ .vmem, ⟨3, _⟩ => ⟨S512x1024, .f32⟩
  | .local _ .vmem, ⟨4, _⟩ => ⟨S1x512x1024, .f32⟩
  | .local _ .vmem, ⟨5, _⟩ => ⟨S1x512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceIdeal.lean ====
abbrev S4x8192x1024 : Shape := ⟨3, ![4, 8192, 1024]⟩
abbrev S8192x1024 : Shape := ⟨2, ![8192, 1024]⟩
abbrev S8192 : Shape := ⟨1, ![8192]⟩
abbrev S_ : Shape := ⟨0, ![]⟩
abbrev S8192x1 : Shape := ⟨2, ![8192, 1]⟩
abbrev S1 : Shape := ⟨1, ![1]⟩
abbrev S1x1 : Shape := ⟨2, ![1, 1]⟩
abbrev S1x8192x1024 : Shape := ⟨3, ![1, 8192, 1024]⟩
abbrev S4x8192x1024x1 : Shape := ⟨4, ![4, 8192, 1024, 1]⟩

abbrev nBuf : Space → Nat
  | .hbm => 31
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S8192x1024, .f32⟩
  | .hbm, ⟨2, _⟩ => ⟨S8192, .i32⟩
  | .hbm, ⟨3, _⟩ => ⟨S_, .i32⟩
  | .hbm, ⟨4, _⟩ => ⟨S8192, .i32⟩
  | .hbm, ⟨5, _⟩ => ⟨S8192, .i1⟩
  | .hbm, ⟨6, _⟩ => ⟨S_, .i32⟩
  | .hbm, ⟨7, _⟩ => ⟨S8192, .i32⟩
  | .hbm, ⟨8, _⟩ => ⟨S8192, .i32⟩
  | .hbm, ⟨9, _⟩ => ⟨S8192, .i32⟩
  | .hbm, ⟨10, _⟩ => ⟨S8192x1, .i32⟩
  | .hbm, ⟨11, _⟩ => ⟨S1, .i32⟩
  | .hbm, ⟨12, _⟩ => ⟨S_, .i32⟩
  | .hbm, ⟨13, _⟩ => ⟨S8192x1, .i32⟩
  | .hbm, ⟨14, _⟩ => ⟨S8192x1, .i1⟩
  | .hbm, ⟨15, _⟩ => ⟨S1x1, .i32⟩
  | .hbm, ⟨16, _⟩ => ⟨S8192x1, .i32⟩
  | .hbm, ⟨17, _⟩ => ⟨S8192x1, .i1⟩
  | .hbm, ⟨18, _⟩ => ⟨S8192x1, .i1⟩
  | .hbm, ⟨19, _⟩ => ⟨S_, .i1⟩
  | .hbm, ⟨20, _⟩ => ⟨S8192, .i1⟩
  | .hbm, ⟨21, _⟩ => ⟨S8192x1024, .f32⟩
  | .hbm, ⟨22, _⟩ => ⟨S8192x1024, .i1⟩
  | .hbm, ⟨23, _⟩ => ⟨S_, .f32⟩
  | .hbm, ⟨24, _⟩ => ⟨S8192x1024, .f32⟩
  | .hbm, ⟨25, _⟩ => ⟨S8192x1024, .f32⟩
  | .hbm, ⟨26, _⟩ => ⟨S1x8192x1024, .f32⟩
  | .hbm, ⟨27, _⟩ => ⟨S4x8192x1024, .f32⟩
  | .hbm, ⟨28, _⟩ => ⟨S4x8192x1024x1, .f32⟩
  | .hbm, ⟨29, _⟩ => ⟨S4x8192x1024, .f32⟩
  | .hbm, ⟨30, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩

abbrev nD : Nat := 1
abbrev τ : Topo := Topo.v7x

variable {F : FTy → Type} [FloatOps F]
-- ==== Proof.KernelSum.lean ====
/-
  What the tiled kernel leaves in its result array: at batch `b`, position `r`, channel `k`, the sum of the activation
  `x[b, r, k]` and the embedding `W[r, k]`. The grid's 16 × 4 points write one block of 512 positions of one batch
  element each; a point's activation block lies where its result block lies, and its block of embeddings at the same
  positions.
-/
module

public import proofs.«01_k».proof.Proof.Gen.KernelIdeal.Value

@[expose] public section

noncomputable section

namespace Cert.Proof.KernelSum

open Cert.KernelIdeal Cert.KernelIdeal.Gen Cert.KernelIdeal.Value Idealize.ShloMosaic Idealize.ShloMosaic.TcCoe Idealize.SL.Sem
open Idealize.ShloMosaic.Pipeline (Dat)

variable {F : FTy → Type} [FloatOps F]

/-- The table's index of the embedding added at `i`: its position and its channel, whatever the batch element. -/
abbrev entryOf (i : S4x8192x1024.Idx) : S8192x1024.Idx :=
  fun a => match a with | ⟨0, _⟩ => ⟨(i 1).val, (i 1).isLt⟩ | ⟨1, _⟩ => ⟨(i 2).val, (i 2).isLt⟩

/-- The activations with each position's embedding added. -/
def embedded (x : Vec F S4x8192x1024 .f32) (W : Vec F S8192x1024 .f32) : Vec F S4x8192x1024 .f32 :=
  fun i => FloatOps.addf (x i) (W (entryOf i))

/-- The block indices of the three windows at grid point `t`, row-major over 16 groups of positions and 4 batch
    elements. -/
theorem index_at : ∀ t : Fin cfg0.N,
    (win0_0.index t (0 : Fin 3) = t.val % 4 ∧ win0_0.index t (1 : Fin 3) = t.val / 4 ∧ win0_0.index t (2 : Fin 3) = 0)
    ∧ (win0_1.index t (0 : Fin 2) = t.val / 4 ∧ win0_1.index t (1 : Fin 2) = 0)
    ∧ (win0_2.index t (0 : Fin 3) = t.val % 4 ∧ win0_2.index t (1 : Fin 3) = t.val / 4 ∧ win0_2.index t (2 : Fin 3) = 0) :=
  (by decide +kernel : ∀ t : Fin grid0.N, _)

/-- Where a point's block index lies in the result array, coordinate by coordinate. -/
theorem result_coords (t : Fin cfg0.N) (y : S1x512x1024.Idx) :
    (((cfg0.win 2).blk t).view.emb y (0 : Fin 3)).val = t.val % 4
    ∧ (((cfg0.win 2).blk t).view.emb y (1 : Fin 3)).val = t.val / 4 * 512 + (y 1).val
    ∧ (((cfg0.win 2).blk t).view.emb y (2 : Fin 3)).val = (y 2).val := by
  obtain ⟨-, -, e0, e1, e2⟩ := index_at t
  have hy : (y 0).val < 1 := (y 0).isLt
  refine ⟨?_, ?_, ?_⟩
  · show win0_2.index t (0 : Fin 3) * 1 + 1 * (y 0).val = _; omega
  · show win0_2.index t (1 : Fin 3) * 512 + 1 * (y 1).val = _; omega
  · show win0_2.index t (2 : Fin 3) * 1024 + 1 * (y 2).val = _; omega

/-- A point's activation block lies where its result block lies. -/
theorem activation_emb (t : Fin cfg0.N) (y : S1x512x1024.Idx) :
    ((cfg0.win 0).blk t).view.emb (ix2_0 y) = ((cfg0.win 2).blk t).view.emb y := by
  obtain ⟨⟨a0, a1, a2⟩, -, -⟩ := index_at t
  obtain ⟨r0, r1, r2⟩ := result_coords t y
  funext a; apply Fin.ext
  match a with
  | ⟨0, _⟩ => refine Eq.trans ?_ r0.symm; show win0_0.index t (0 : Fin 3) * 1 + 1 * 0 = _; omega
  | ⟨1, _⟩ => refine Eq.trans ?_ r1.symm; show win0_0.index t (1 : Fin 3) * 512 + 1 * (y 1).val = _; omega
  | ⟨2, _⟩ => refine Eq.trans ?_ r2.symm; show win0_0.index t (2 : Fin 3) * 1024 + 1 * (y 2).val = _; omega

/-- A point's block of embeddings lies at the positions and channels of its result block. -/
theorem embedding_emb (t : Fin cfg0.N) (y : S1x512x1024.Idx) :
    ((cfg0.win 1).blk t).view.emb (ix2_1 y) = entryOf (((cfg0.win 2).blk t).view.emb y) := by
  obtain ⟨-, ⟨w0, w1⟩, -⟩ := index_at t
  obtain ⟨-, r1, r2⟩ := result_coords t y
  funext a; apply Fin.ext
  match a with
  | ⟨0, _⟩ => refine Eq.trans ?_ r1.symm; show win0_1.index t (0 : Fin 2) * 512 + 1 * (y 1).val = _; omega
  | ⟨1, _⟩ => refine Eq.trans ?_ r2.symm; show win0_1.index t (1 : Fin 2) * 1024 + 1 * (y 2).val = _; omega

theorem zero3 : (![0, 0, 0] : Fin 3 → Nat) = fun _ => 0 := funext fun a => by fin_cases a <;> rfl
theorem zero2 : (![0, 0] : Fin 2 → Nat) = fun _ => 0 := funext fun a => by fin_cases a <;> rfl

/-- The body's result block, element by element: the activation plus the embedding of its row. -/
theorem out_apply (x0 : Vec F S1x512x1024 .f32) (x1 : Vec F S512x1024 .f32) (y : S1x512x1024.Idx) :
    out0_2 x0 x1 y = FloatOps.addf (x0 (ix2_0 y)) (x1 (ix2_1 y)) := by
  unfold out0_2
  rw [View.ld_unit_zero zero3, View.ld_unit_zero zero2]
  exact canon2_eq x0 x1 y

variable (m : (ℓ : Loc nD τ sig) → Buf (Elt F) ℓ) (ρ : Dev nD → PrngReg)

/-- The embedded activations of device `c`'s arguments. -/
abbrev result (c : Dev nD) : Buf (Elt F) ((c : Thread nD τ).loc main_v0) :=
  embedded (m ((c : Thread nD τ).loc main_arg0)) (m ((c : Thread nD τ).loc main_arg1))

/-- What a grid point writes back is its block of the embedded activations. -/
theorem flushed_eq (c : Dev nD) (t : Fin cfg0.N) :
    (dats m 0 c).flushed 2 t = ((cfg0.win 2).blk t).view.read (Elt F) (result m c) := by
  rw [flushed2]
  funext y
  show out0_2 (iblk m c 0 t) (iblk m c 1 t) y = result m c (((cfg0.win 2).blk t).view.emb y)
  rw [out_apply]
  show FloatOps.addf (m ((c : Thread nD τ).loc main_arg0) (((cfg0.win 0).blk t).view.emb (ix2_0 y)))
      (m ((c : Thread nD τ).loc main_arg1) (((cfg0.win 1).blk t).view.emb (ix2_1 y))) = _
  rw [activation_emb, embedding_emb]
  rfl

/-- Every index of the result array lies in some point's block: batch element `b`, position `r` in that of point
    `4 (r / 512) + b`. -/
theorem covered (i : S4x8192x1024.Idx) :
    ∃ t : Fin cfg0.N, (cfg0.win 2).flush t = true ∧ i ∈ ((cfg0.win 2).blk t).view.set := by
  have h0 : (i 0).val < 4 := (i 0).isLt
  have h1 : (i 1).val < 8192 := (i 1).isLt
  have h2 : (i 2).val < 1024 := (i 2).isLt
  have hN : cfg0.N = 64 := N_0
  let t : Fin cfg0.N := ⟨(i 1).val / 512 * 4 + (i 0).val, by omega⟩
  have ht : t.val = (i 1).val / 512 * 4 + (i 0).val := rfl
  let y : S1x512x1024.Idx := fun a => match a with
    | ⟨0, _⟩ => ⟨0, Nat.one_pos⟩
    | ⟨1, _⟩ => ⟨(i 1).val % 512, Nat.mod_lt _ (by decide)⟩
    | ⟨2, _⟩ => ⟨(i 2).val, h2⟩
  obtain ⟨r0, r1, r2⟩ := result_coords t y
  have hy1 : (y 1).val = (i 1).val % 512 := rfl
  have hy2 : (y 2).val = (i 2).val := rfl
  have e : ((cfg0.win 2).blk t).view.emb y = i := by
    funext a; apply Fin.ext
    match a with
    | ⟨0, _⟩ => exact r0.trans (by show _ = (i 0).val; omega)
    | ⟨1, _⟩ => exact r1.trans (by show _ = (i 1).val; omega)
    | ⟨2, _⟩ => exact r2.trans hy2
  exact ⟨t, flush0_2 t, by rw [← e]; exact ((cfg0.win 2).blk t).view.emb_mem_set y⟩

/-- After the run the result array holds the embedded activations, whole. -/
theorem final (c : Dev nD) : (dats m 0 c).arrAt 2 cfg0.N = result m c :=
  (dats m 0 c).arrAt_eq_of_cover 2 (result m c) (fun t _ => flushed_eq m c t) covered

/-- The kernel's run: the result array at the embedded activations, the arguments unchanged. -/
theorem run : θ_run defs (onTc (τ := τ) (main (F := F))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (run_blocks m ρ)

end Cert.Proof.KernelSum

end
-- ==== Proof.Lookup.lean ====
/-
  What the reference computes: the rows 0, 1, … of the table looked up by a gather, each row number in range, are the
  table's own rows; broadcast over the batch and added to the activations they give `x[b, r, k] + W[r, k]`.
-/
module

public import proofs.«01_k».proof.Proof.Gen.ReferenceIdeal.Run
public import Idealize.ShloMosaic.Lib.Pipeline.Value
public import Idealize.ShloMosaic.Lib.Routing.Ops
public import Idealize.ShloMosaic.Lib.ReduceAll

@[expose] public section

noncomputable section

namespace Cert.Proof.Lookup

open Cert.ReferenceIdeal Cert.ReferenceIdeal.Gen Idealize.ShloMosaic Idealize.ShloMosaic.TcCoe Idealize.SL.Sem

variable {F : FTy → Type} [FloatOps F]

/-- The positions, a negative one counted from the table's end as indexing does (none is negative). -/
abbrev wrapped : IVec S8192 32 :=
  select (cmpi .slt (iotaInDim S8192 32 0) (broadcastInDim S8192 ![] bcast_S_S8192 (constantI S_ 32 0#32)))
    (addi (iotaInDim S8192 32 0) (broadcastInDim S8192 ![] bcast_S_S8192 (constantI S_ 32 8192#32))) (iotaInDim S8192 32 0)

/-- The positions as a column of row numbers. -/
abbrev rows : IVec S8192x1 32 := broadcastInDim S8192x1 ![0] bcast_S8192_S8192x1_0 wrapped

/-- Which row numbers name a row of the table. -/
abbrev inRange : IVec S8192x1 1 :=
  andi (cmpi .sge rows (broadcastInDim S8192x1 ![] bcast_S_S8192x1 (constantI S_ 32 0#32)))
    (cmpi .sle rows (broadcastInDim S8192x1 ![0, 1] bcast_S1x1_S8192x1_0_1
      (broadcastInDim S1x1 ![1] bcast_S1_S1x1_1 (constantI S1 32 8191#32))))

/-- The rows of the table at the positions, one out of range filled with a NaN. -/
abbrev taken (W : Vec F S8192x1024 .f32) : Vec F S8192x1024 .f32 :=
  select (broadcastInDim S8192x1024 ![0] bcast_S8192_S8192x1024_0
      (Host.reduce IntOp.andi inRange (constantI S_ 1 1#1) reducesTo_S8192x1_S8192_d1 h_S_))
    (Host.gather gather_S8192x1024_S8192x1_S8192x1024_1_0_n_n_0_1_11024 W rows)
    (broadcastInDim S8192x1024 ![] bcast_S_S8192x1024 (constant S_ .f32 0x7FC00000#32))

/-- A position as a signed word is itself. -/
theorem toInt_position {n : Nat} (h : n < 8192) : (BitVec.ofNat 32 n).toInt = n := by
  rw [BitVec.toInt_ofNat']
  exact Int.bmod_eq_of_le (by omega) (by omega)

/-- Position `n` is not negative, so it stays as it is. -/
theorem wrapped_apply (i : S8192.Idx) : wrapped i = BitVec.ofNat 32 (i 0).val := by
  have h : (i 0).val < 8192 := (i 0).isLt
  show Scalar.select (IntOp.cmpi .slt (BitVec.ofNat 32 (i 0).val) 0#32)
    (IntOp.addi (BitVec.ofNat 32 (i 0).val) 8192#32) (BitVec.ofNat 32 (i 0).val) = _
  have hn : ¬IntOp.cmpi .slt (BitVec.ofNat 32 (i 0).val) 0#32 = 1#1 := by
    rw [IntOp.cmpi_slt, toInt_position h]
    show ¬((i 0).val : Int) < 0
    omega
  rcases BitVec.eq_zero_or_eq_one (IntOp.cmpi .slt (BitVec.ofNat 32 (i 0).val) 0#32) with e | e
  · rw [e]; rfl
  · exact absurd e hn

/-- The row number in place `n` of the column is `n`. -/
theorem rows_apply (j : S8192x1.Idx) : rows j = BitVec.ofNat 32 (j 0).val := by
  refine (broadcastInDim_apply _ _ wrapped j (fun a => match a with | ⟨0, _⟩ => ⟨(j 0).val, (j 0).isLt⟩) fun a => ?_).trans
    (wrapped_apply _)
  match a with | ⟨0, _⟩ => rfl

/-- Every row number is in range. -/
theorem inRange_apply (j : S8192x1.Idx) : inRange j = 1#1 := by
  have h : (j 0).val < 8192 := (j 0).isLt
  refine IntOp.andi_eq_one.mpr ⟨IntOp.cmpi_sge.mpr ?_, IntOp.cmpi_sle.mpr ?_⟩
  · rw [rows_apply, toInt_position h]
    show (0 : Int) ≤ ((j 0).val : Int)
    omega
  · rw [rows_apply, toInt_position h]
    show ((j 0).val : Int) ≤ (8191 : Int)
    omega

/-- So the rows taken at the positions are the table's rows, in order. -/
theorem taken_apply (W : Vec F S8192x1024 .f32) (j : S8192x1024.Idx) : taken W j = W j := by
  have hm : broadcastInDim S8192x1024 ![0] bcast_S8192_S8192x1024_0
      (Host.reduce IntOp.andi inRange (constantI S_ 1 1#1) reducesTo_S8192x1_S8192_d1 h_S_) j = 1#1 :=
    Host.reduce_andi_one _ _ _ _ _ rfl inRange_apply
  have hg : Host.gather gather_S8192x1024_S8192x1_S8192x1024_1_0_n_n_0_1_11024 W rows j = W j := by
    have hj : j = ValueIdx.ix2 (⟨(j 0).val, (j 0).isLt⟩ : Fin 8192) (⟨(j 1).val, (j 1).isLt⟩ : Fin 1024) := by
      funext a; match a with | ⟨0, _⟩ => rfl | ⟨1, _⟩ => rfl
    rw [hj]
    exact Routing.gather_row _ rfl rfl rfl rfl rfl W rows _ _ _ (rows_apply _) (by decide)
  show Scalar.select (broadcastInDim S8192x1024 ![0] bcast_S8192_S8192x1024_0
      (Host.reduce IntOp.andi inRange (constantI S_ 1 1#1) reducesTo_S8192x1_S8192_d1 h_S_) j)
    (Host.gather gather_S8192x1024_S8192x1_S8192x1024_1_0_n_n_0_1_11024 W rows j) _ = W j
  rw [hm, hg]; rfl

/-- Rows broadcast over the batch, with a last axis of extent one added and flattened away. -/
abbrev spread (E : Vec F S8192x1024 .f32) : Vec F S4x8192x1024 .f32 :=
  shapeCast _ (broadcastInDim S4x8192x1024x1 ![0, 1, 2] bcast_S4x8192x1024_S4x8192x1024x1_0_1_2
    (broadcastInDim S4x8192x1024 ![0, 1, 2] bcast_S1x8192x1024_S4x8192x1024_0_1_2
      (broadcastInDim S1x8192x1024 ![1, 2] bcast_S8192x1024_S1x8192x1024_1_2 E))) shapeCasts_S4x8192x1024x1_S4x8192x1024

/-- The table's index at position and channel of `i`. -/
abbrev entryOf (i : S4x8192x1024.Idx) : S8192x1024.Idx :=
  fun a => match a with | ⟨0, _⟩ => ⟨(i 1).val, (i 1).isLt⟩ | ⟨1, _⟩ => ⟨(i 2).val, (i 2).isLt⟩

/-- Every batch element of the broadcast holds the same rows. -/
theorem spread_apply (E : Vec F S8192x1024 .f32) (i : S4x8192x1024.Idx) : spread E i = E (entryOf i) := by
  refine (shapeCast_apply _ _ i (fun a => match a with
      | ⟨0, _⟩ => ⟨(i 0).val, (i 0).isLt⟩ | ⟨1, _⟩ => ⟨(i 1).val, (i 1).isLt⟩
      | ⟨2, _⟩ => ⟨(i 2).val, (i 2).isLt⟩ | ⟨3, _⟩ => ⟨0, Nat.one_pos⟩ : S4x8192x1024x1.Idx) (by
    rw [Shape.rowMajor_val_four, Shape.rowMajor_val_three]
    show (((i 0).val * 8192 + (i 1).val) * 1024 + (i 2).val) * 1 + 0 = ((i 0).val * 8192 + (i 1).val) * 1024 + (i 2).val
    omega)).trans ?_
  refine (broadcastInDim_apply _ _ _ _ i fun a => ?_).trans ?_
  · match a with | ⟨0, _⟩ => rfl | ⟨1, _⟩ => rfl | ⟨2, _⟩ => rfl
  refine (broadcastInDim_apply _ _ _ _ (fun a => match a with
      | ⟨0, _⟩ => ⟨0, Nat.one_pos⟩ | ⟨1, _⟩ => ⟨(i 1).val, (i 1).isLt⟩
      | ⟨2, _⟩ => ⟨(i 2).val, (i 2).isLt⟩ : S1x8192x1024.Idx) fun a => ?_).trans ?_
  · match a with | ⟨0, _⟩ => rfl | ⟨1, _⟩ => rfl | ⟨2, _⟩ => rfl
  refine broadcastInDim_apply _ _ _ _ (entryOf i) fun a => ?_
  match a with | ⟨0, _⟩ => rfl | ⟨1, _⟩ => rfl

/-- The reference's result, element by element: the activation plus the table's entry at its position and channel. -/
theorem value_apply (x : Vec F S4x8192x1024 .f32) (W : Vec F S8192x1024 .f32) (i : S4x8192x1024.Idx) :
    addf x (spread (taken W)) i = FloatOps.addf (x i) (W (entryOf i)) := by
  show FloatOps.addf (x i) (spread (taken W) i) = _
  rw [spread_apply, taken_apply]

end Cert.Proof.Lookup

end
-- ==== Proof.lean ====
/-
  The proof of the certificate: the frames are the generated ones, the ideal program is the kernel's own text, and both
  programs end with `x[b, r, k] + W[r, k]` (KernelSum.lean for the kernel, Lookup.lean for the reference).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.KernelSum
public import proofs.«01_k».proof.Proof.Lookup
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The reference declares no semaphore; its host run leaves the arguments unchanged. -/
theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- From equal arguments both programs end with the embedded activations, over the extended reals. -/
theorem algebraic : Cert.algebraic_KernelIdeal_ReferenceIdeal := by
  intro m ρ m' ρ' _ hagree
  refine ⟨fun c => KernelSum.result m c, KernelSum.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  funext i
  exact Lookup.value_apply (F := Ideal) _ _ i

theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, frame_reference, trivial, algebraic⟩

end Cert.Proof

end
